-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S32x2x1024 Cert.KernelIdeal.S32x1x1024
  ∧ IdealRules.bf16_pair.Statement Cert.KernelIdeal.S16x1024 Cert.KernelIdeal.S8x1024
  ∧ IdealRules.bf16_pair.Statement Cert.KernelIdeal.S8x2x1024 Cert.KernelIdeal.S8x1x1024
  ∧ IdealRules.bf16_pair.Statement Cert.KernelIdeal.S1x2x1024 Cert.KernelIdeal.S1x1x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x8192 : Shape := ⟨3, ![16, 1, 8192]⟩
abbrev S4096x22528 : Shape := ⟨2, ![4096, 22528]⟩
abbrev S64x22528 : Shape := ⟨2, ![64, 22528]⟩
abbrev S16x8192 : Shape := ⟨2, ![16, 8192]⟩
abbrev S16x22528 : Shape := ⟨2, ![16, 22528]⟩
abbrev S4096x1024 : Shape := ⟨2, ![4096, 1024]⟩
abbrev S64x1024 : Shape := ⟨2, ![64, 1024]⟩
abbrev S16x1024 : Shape := ⟨2, ![16, 1024]⟩
abbrev S32x1024 : Shape := ⟨2, ![32, 1024]⟩
abbrev S256x256 : Shape := ⟨2, ![256, 256]⟩
abbrev S16x128 : Shape := ⟨2, ![16, 128]⟩
abbrev S16x256 : Shape := ⟨2, ![16, 256]⟩
abbrev S8x1024 : Shape := ⟨2, ![8, 1024]⟩
abbrev S1x1024 : Shape := ⟨2, ![1, 1024]⟩
abbrev S128x1024 : Shape := ⟨2, ![128, 1024]⟩
abbrev S256x1024 : Shape := ⟨2, ![256, 1024]⟩
abbrev S16x16x1024 : Shape := ⟨3, ![16, 16, 1024]⟩
abbrev S1x16x1024 : Shape := ⟨3, ![1, 16, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16x1x8192, .bf16⟩
  | .hbm, ⟨1, _⟩ => ⟨S4096x22528, .i8⟩
  | .hbm, ⟨2, _⟩ => ⟨S64x22528, .bf16⟩
  | .hbm, ⟨3, _⟩ => ⟨S64x22528, .bf16⟩
  | .hbm, ⟨4, _⟩ => ⟨S16x8192, .bf16⟩
  | .hbm, ⟨5, _⟩ => ⟨S16x22528, .bf16⟩
  | .local _ .vmem, ⟨0, _⟩ => ⟨S16x8192, .bf16⟩
  | .local _ .vmem, ⟨1, _⟩ => ⟨S4096x1024, .i8⟩
  | .local _ .vmem, ⟨2, _⟩ => ⟨S4096x1024, .i8⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S16x1024, .bf16⟩
  | .local _ .vmem, ⟨8, _⟩ => ⟨S16x1024, .bf16⟩
  | .local _ .vmem, ⟨9, _⟩ => ⟨S16x8192, .bf16⟩
  | .local _ .vmem, ⟨10, _⟩ => ⟨S32x1024, .i32⟩
  | .local _ .vmem, ⟨11, _⟩ => ⟨S32x1024, .i32⟩
  | _, _ => ⟨S16x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S32x2x1024 : Shape := ⟨3, ![32, 2, 1024]⟩
abbrev S32x1x1024 : Shape := ⟨3, ![32, 1, 1024]⟩
abbrev S8x2x1024 : Shape := ⟨3, ![8, 2, 1024]⟩
abbrev S8x1x1024 : Shape := ⟨3, ![8, 1, 1024]⟩
abbrev S1x2x1024 : Shape := ⟨3, ![1, 2, 1024]⟩
abbrev S1x1x1024 : Shape := ⟨3, ![1, 1, 1024]⟩
  | .local _ .vmem, ⟨10, _⟩ => ⟨S32x2x1024, .bf16⟩
  | .local _ .vmem, ⟨11, _⟩ => ⟨S32x2x1024, .bf16⟩
variable {F : FTy → Type} [FloatOps F]
-- ==== ReferenceIdeal.lean ====
abbrev S16x1x8192 : Shape := ⟨3, ![16, 1, 8192]⟩
abbrev S4096x22528 : Shape := ⟨2, ![4096, 22528]⟩
abbrev S64x22528 : Shape := ⟨2, ![64, 22528]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S16x1x64x128 : Shape := ⟨4, ![16, 1, 64, 128]⟩
abbrev S32x22528 : Shape := ⟨2, ![32, 22528]⟩
abbrev S32x128x22528 : Shape := ⟨3, ![32, 128, 22528]⟩
abbrev S32x1x22528 : Shape := ⟨3, ![32, 1, 22528]⟩
abbrev S16x1x4096 : Shape := ⟨3, ![16, 1, 4096]⟩
abbrev S16x1x22528 : Shape := ⟨3, ![16, 1, 22528]⟩
abbrev S16x22528 : Shape := ⟨2, ![16, 22528]⟩

abbrev nBuf : Space → Nat
  | .hbm => 66
  | .vmem => 0
  | .smem => 0
  | _ => 0

abbrev bufTy : (tb : Table) → Fin (tcTables nBuf tb) → BufTy
  | .hbm, ⟨0, _⟩ => ⟨S16x1x8192, .bf16⟩
  | .hbm, ⟨1, _⟩ => ⟨S4096x22528, .i8⟩
  | .hbm, ⟨2, _⟩ => ⟨S64x22528, .bf16⟩
  | .hbm, ⟨3, _⟩ => ⟨S64x22528, .bf16⟩
  | .hbm, ⟨4, _⟩ => ⟨S16x1x8192, .f32⟩
  | .hbm, ⟨5, _⟩ => ⟨S128, .i32⟩
  | .hbm, ⟨6, _⟩ => ⟨S128x1, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S16x1x64x128, .f32⟩
  | .hbm, ⟨26, _⟩ => ⟨S16x1x64x128, .f32⟩
  | .hbm, ⟨27, _⟩ => ⟨S16x1x8192, .f32⟩
  | .hbm, ⟨28, _⟩ => ⟨S16x1x8192, .bf16⟩
  | .hbm, ⟨29, _⟩ => ⟨S4096x22528, .i32⟩
  | .hbm, ⟨30, _⟩ => ⟨S_, .i32⟩
  | .hbm, ⟨31, _⟩ => ⟨S4096x22528, .i32⟩
  | .hbm, ⟨32, _⟩ => ⟨S4096x22528, .i32⟩
  | .hbm, ⟨33, _⟩ => ⟨S32x22528, .bf16⟩
  | .hbm, ⟨34, _⟩ => ⟨S32x22528, .bf16⟩
  | .hbm, ⟨35, _⟩ => ⟨S4096x22528, .bf16⟩
  | .hbm, ⟨36, _⟩ => ⟨S32x128x22528, .bf16⟩
  | .hbm, ⟨37, _⟩ => ⟨S32x1x22528, .bf16⟩
  | .hbm, ⟨38, _⟩ => ⟨S32x128x22528, .bf16⟩
  | .hbm, ⟨39, _⟩ => ⟨S32x128x22528, .bf16⟩
  | .hbm, ⟨40, _⟩ => ⟨S32x1x22528, .bf16⟩
  | .hbm, ⟨41, _⟩ => ⟨S32x128x22528, .bf16⟩
  | .hbm, ⟨42, _⟩ => ⟨S32x128x22528, .bf16⟩
  | .hbm, ⟨43, _⟩ => ⟨S4096x22528, .bf16⟩
  | .hbm, ⟨44, _⟩ => ⟨S4096x22528, .i32⟩
  | .hbm, ⟨45, _⟩ => ⟨S_, .i32⟩
  | .hbm, ⟨46, _⟩ => ⟨S4096x22528, .i32⟩
  | .hbm, ⟨47, _⟩ => ⟨S4096x22528, .i32⟩
  | .hbm, ⟨48, _⟩ => ⟨S32x22528, .bf16⟩
  | .hbm, ⟨49, _⟩ => ⟨S32x22528, .bf16⟩
  | .hbm, ⟨50, _⟩ => ⟨S4096x22528, .bf16⟩
  | .hbm, ⟨51, _⟩ => ⟨S32x128x22528, .bf16⟩
  | .hbm, ⟨52, _⟩ => ⟨S32x1x22528, .bf16⟩
  | .hbm, ⟨53, _⟩ => ⟨S32x128x22528, .bf16⟩
  | .hbm, ⟨54, _⟩ => ⟨S32x128x22528, .bf16⟩
  | .hbm, ⟨55, _⟩ => ⟨S32x1x22528, .bf16⟩
  | .hbm, ⟨56, _⟩ => ⟨S32x128x22528, .bf16⟩
  | .hbm, ⟨57, _⟩ => ⟨S32x128x22528, .bf16⟩
  | .hbm, ⟨58, _⟩ => ⟨S4096x22528, .bf16⟩
  | .hbm, ⟨59, _⟩ => ⟨S16x1x4096, .bf16⟩
  | .hbm, ⟨60, _⟩ => ⟨S16x1x22528, .f32⟩
  | .hbm, ⟨61, _⟩ => ⟨S16x1x4096, .bf16⟩
  | .hbm, ⟨62, _⟩ => ⟨S16x1x22528, .f32⟩
  | .hbm, ⟨63, _⟩ => ⟨S16x1x22528, .f32⟩
  | .hbm, ⟨64, _⟩ => ⟨S16x1x22528, .bf16⟩
  | .hbm, ⟨65, _⟩ => ⟨S16x22528, .bf16⟩
  | _, _ => ⟨S16x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Proof.Steps.lean ====
/- What one run of the kernel's body stores, over what it loads: the rotated activations group by group, and the sum over
   the thirty-two groups of a group's rotated columns times its dequantised weights. -/
module

public import proofs.«01_k».proof.Proof.Gen.KernelIdeal.Frame

@[expose] public section

set_option maxRecDepth 65536

noncomputable section

namespace Cert.KernelIdeal.Steps

open Cert.KernelIdeal Cert.KernelIdeal.Gen Idealize.ShloMosaic Idealize.ShloMosaic.TcCoe Idealize.SL.Sem

variable {F : FTy → Type} [FloatOps F]

/-- One group's contribution: its 256 rotated columns times its 256 dequantised rows, added to the sum so far. -/
def step (acc : FVec F S16x1024 .f32) (w : FVec F S16x16x1024 .bf16) (x : Vec F S16x256 .bf16) : FVec F S16x1024 .f32 :=
  addf acc (matmul dot_S16x256_S256x1024_S16x1024_1_0_0_1_n_n none x
    (shapeCast S256x1024 w shapeCasts_S16x16x1024_S256x1024) (constant S16x1024 .f32 0x00000000#32))

/-- A group's dequantised weights from its packed codes and the rows that hold its scales and zero points. -/
abbrev deq (s z : Vec F S1x2x1024 .bf16) (w : Vec F S128x1024 .i8) : FVec F S16x16x1024 .bf16 := k0_pay66 s z w

/-- A 256-column block of the rotated activations, from the two 128-column blocks it interleaves. -/
abbrev rot (lo hi : Vec F S16x128 .bf16) : FVec F S16x256 .bf16 := k0_pay3 lo hi

/-- The sum over the first `n` groups, each group's operands given by the group. -/
def acc (s z : (n : ℕ) → n < 32 → Vec F S1x2x1024 .bf16) (w : (n : ℕ) → n < 32 → Vec F S128x1024 .i8)
    (x : (n : ℕ) → n < 32 → Vec F S16x256 .bf16) : (n : ℕ) → n ≤ 32 → FVec F S16x1024 .f32
  | 0, _ => broadcast S16x1024 (Scalar.ofBits .f32 0x00000000#32)
  | n + 1, h => step (acc s z w x n (Nat.le_of_succ_le h)) (deq (s n h) (z n h) (w n h)) (x n h)

/-- The row of the packed scales (and zero points) that holds group `n`'s. -/
abbrev row (n : ℕ) : ℕ := 16 * (n / 16) + 8 * (n % 2) + n % 16 / 2

/-- A group's row is one of the thirty-two. -/
theorem row_lt {n : ℕ} (h : n < 32) : row n < 32 := by unfold row; omega

/-- The load of a group's row of the packed scratch is in bounds. -/
theorem inbRow {n : ℕ} (h : n < 32) : ∀ a, ![row n, 0, 0] a + S1x2x1024.size a ≤ S32x2x1024.size a := by
  have := row_lt h
  intro a; fin_cases a
  · show row n + 1 ≤ 32; omega
  · show 0 + 2 ≤ 2; omega
  · show 0 + 1024 ≤ 1024; omega

/-- The load of a group's codes is in bounds. -/
theorem inbW {n : ℕ} (h : n < 32) : ∀ a, ![128 * n, 0] a + S128x1024.size a ≤ S4096x1024.size a := by
  intro a; fin_cases a
  · show 128 * n + 128 ≤ 4096; omega
  · show 0 + 1024 ≤ 1024; omega

/-- The load or store of a group's rotated activations is in bounds. -/
theorem inbX {n : ℕ} (h : n < 32) : ∀ a, ![0, 256 * n] a + S16x256.size a ≤ S16x8192.size a := by
  intro a; fin_cases a
  · show 0 + 16 ≤ 16; omega
  · show 256 * n + 256 ≤ 8192; omega

/-- The load of a group's first block of activations is in bounds. -/
theorem inbLo {n : ℕ} (h : n < 32) : ∀ a, ![0, 128 * n] a + S16x128.size a ≤ S16x8192.size a := by
  intro a; fin_cases a
  · show 0 + 16 ≤ 16; omega
  · show 128 * n + 128 ≤ 8192; omega

/-- The load of a group's second block of activations is in bounds. -/
theorem inbHi {n : ℕ} (h : n < 32) : ∀ a, ![0, 4096 + 128 * n] a + S16x128.size a ≤ S16x8192.size a := by
  intro a; fin_cases a
  · show 0 + 16 ≤ 16; omega
  · show 4096 + 128 * n + 128 ≤ 8192; omega

abbrev rectRow (n : ℕ) (h : n < 32) : Rect S32x2x1024 := Rect.unit ![row n, 0, 0] S1x2x1024.size (inbRow h)
abbrev rectW (n : ℕ) (h : n < 32) : Rect S4096x1024 := Rect.unit ![128 * n, 0] S128x1024.size (inbW h)
abbrev rectX (n : ℕ) (h : n < 32) : Rect S16x8192 := Rect.unit ![0, 256 * n] S16x256.size (inbX h)
abbrev rectLo (n : ℕ) (h : n < 32) : Rect S16x8192 := Rect.unit ![0, 128 * n] S16x128.size (inbLo h)
abbrev rectHi (n : ℕ) (h : n < 32) : Rect S16x8192 := Rect.unit ![0, 4096 + 128 * n] S16x128.size (inbHi h)

/-- The stores of the first `n` groups' rotated columns, the last one first. -/
def rotPieces (lo hi : (n : ℕ) → n < 32 → Vec F S16x128 .bf16) : (n : ℕ) → n ≤ 32 → List (View.Piece (Elt F) S16x8192 .bf16)
  | 0, _ => []
  | n + 1, h => ⟨rectX n h, rot (lo n h) (hi n h)⟩ :: rotPieces lo hi n (Nat.le_of_succ_le h)

/-- Sixteen rows of scales and the sixteen rows thirty-two further down, the rows of one parity laid out in pairs. -/
abbrev pack (p : Fin 2) (lo hi : Vec F S16x1024 .bf16) : Vec F S8x2x1024 .bf16 :=
  interleaveRows S8x2x1024 (shapeCast S8x1x1024 (rowsOfParity p S8x1024 lo bitcasts_S16x1024_w16_S8x1024_w32) shapeCasts_S8x1024_S8x1x1024)
    (shapeCast S8x1x1024 (rowsOfParity p S8x1024 hi bitcasts_S16x1024_w16_S8x1024_w32) shapeCasts_S8x1024_S8x1x1024)
    bitcasts_S8x2x1024_w16_S8x1x1024_w32

/-- Sixteen rows of a block of scales, from row 0. -/
abbrev rectS0 : Rect S64x1024 := Rect.unit ![0, 0] S16x1024.size inb_S64x1024_S16x1024_0_0

/-- Sixteen rows of a block of scales, from row 16. -/
abbrev rectS16 : Rect S64x1024 := Rect.unit ![16, 0] S16x1024.size inb_S64x1024_S16x1024_16_0

/-- Sixteen rows of a block of scales, from row 32. -/
abbrev rectS32 : Rect S64x1024 := Rect.unit ![32, 0] S16x1024.size inb_S64x1024_S16x1024_32_0

/-- Sixteen rows of a block of scales, from row 48. -/
abbrev rectS48 : Rect S64x1024 := Rect.unit ![48, 0] S16x1024.size inb_S64x1024_S16x1024_48_0

/-- The four stores that pack a block of scales (or zero points), given its four blocks of sixteen rows. -/
def packPieces (a b c d : Vec F S16x1024 .bf16) : List (View.Piece (Elt F) S32x2x1024 .bf16) :=
  [⟨Rect.unit ![24, 0, 0] S8x2x1024.size inb_S32x2x1024_S8x2x1024_24_0_0, pack 1 b d⟩,
   ⟨Rect.unit ![16, 0, 0] S8x2x1024.size inb_S32x2x1024_S8x2x1024_16_0_0, pack 0 b d⟩,
   ⟨Rect.unit ![8, 0, 0] S8x2x1024.size inb_S32x2x1024_S8x2x1024_8_0_0, pack 1 a c⟩,
   ⟨Rect.unit ![0, 0, 0] S8x2x1024.size inb_S32x2x1024_S8x2x1024_0_0_0, pack 0 a c⟩]

section
variable (c : Dev nD) (i : grid0.Coords) (arg1 : Memref sig .tc .vmem S16x8192 .bf16) (harg1 : arg1.IsWhole) (arg2 : Memref sig .tc .vmem S4096x1024 .i8) (harg2 : arg2.IsWhole) (arg3 : Memref sig .tc .vmem S64x1024 .bf16) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S16x8192 .bf16) (harg6 : arg6.IsWhole) (arg7 : Memref sig .tc .vmem S32x2x1024 .bf16) (harg7 : arg7.IsWhole) (arg8 : Memref sig .tc .vmem S32x2x1024 .bf16) (harg8 : arg8.IsWhole)
  (x0 : Vec F S16x8192 .bf16) (x1 : Vec F S4096x1024 .i8) (x2 : Vec F S64x1024 .bf16) (x3 : Vec F S64x1024 .bf16) (xs0 : Vec F S16x8192 .bf16)

/-- At a later point the body's one store of the result is the sum over all groups, rounded. -/
theorem pieces_B (hc0 : ¬cond0_0 i) :
    (kernelRun0_B c i arg1 harg1 arg2 harg2 arg3 harg3 arg4 harg4 arg5 harg5 arg6 harg6 arg7 harg7 arg8 harg8 hc0 x0 x1 x2 x3 xs0).1
      = [⟨Rect.unit ![0, 0] S16x1024.size inb_S16x1024_S16x1024_0_0, truncf .bf16 (acc
          (fun n h => arg7.view.readCov (kernelRun0_B.sl.HS1_4 c arg3 harg3 x2) (rectRow n h).toLoadRect)
          (fun n h => arg8.view.readCov (kernelRun0_B.sl.HS2_4 c arg4 harg4 x3) (rectRow n h).toLoadRect)
          (fun n h => View.readAt (Elt F) arg2.view (rectW n h).toLoadRect (harg2.unread x1))
          (fun n h => View.readAt (Elt F) arg6.view (rectX n h).toLoadRect (harg6.unread xs0)) 32 le_rfl) bitsLt_bf16_f32⟩] := by
  sl_kernel_rfl

/-- At the first point likewise, the rotated columns read back from the stores that point makes. -/
theorem pieces_A (hc0 : cond0_0 i) :
    (kernelRun0_A c i arg1 harg1 arg2 harg2 arg3 harg3 arg4 harg4 arg5 harg5 arg6 harg6 arg7 harg7 arg8 harg8 hc0 x0 x1 x2 x3).1
      = [⟨Rect.unit ![0, 0] S16x1024.size inb_S16x1024_S16x1024_0_0, truncf .bf16 (acc
          (fun n h => arg7.view.readCov (kernelRun0_A.sl.HS1_4 c arg3 harg3 x2) (rectRow n h).toLoadRect)
          (fun n h => arg8.view.readCov (kernelRun0_A.sl.HS2_4 c arg4 harg4 x3) (rectRow n h).toLoadRect)
          (fun n h => View.readAt (Elt F) arg2.view (rectW n h).toLoadRect (harg2.unread x1))
          (fun n h => arg6.view.readCov (kernelRun0_A.sl.HS0_32 c arg1 harg1 x0) (rectX n h).toLoadRect) 32 le_rfl) bitsLt_bf16_f32⟩] := by
  sl_kernel_rfl

/-- The first point's thirty-two stores of rotated columns. -/
theorem rotated_A : kernelRun0_A.sl.HS0_32 c arg1 harg1 x0
    = rotPieces (fun n h => View.readAt (Elt F) arg1.view (rectLo n h).toLoadRect (harg1.unread x0))
        (fun n h => View.readAt (Elt F) arg1.view (rectHi n h).toLoadRect (harg1.unread x0)) 32 le_rfl := by
  sl_kernel_rfl

/-- The stores the first point leaves in the carried scratch are those. -/
theorem carried_A (hc0 : cond0_0 i) :
    (kernelRun0_A c i arg1 harg1 arg2 harg2 arg3 harg3 arg4 harg4 arg5 harg5 arg6 harg6 arg7 harg7 arg8 harg8 hc0 x0 x1 x2 x3).2.1
      = kernelRun0_A.sl.HS0_32 c arg1 harg1 x0 := by
  sl_kernel_rfl

/-- The stores that pack the scales, at the first point. -/
theorem scales_A : kernelRun0_A.sl.HS1_4 c arg3 harg3 x2
    = packPieces
        (View.readAt (Elt F) arg3.view rectS0.toLoadRect (harg3.unread x2))
        (View.readAt (Elt F) arg3.view rectS16.toLoadRect (harg3.unread x2))
        (View.readAt (Elt F) arg3.view rectS32.toLoadRect (harg3.unread x2))
        (View.readAt (Elt F) arg3.view rectS48.toLoadRect (harg3.unread x2)) := by
  sl_kernel_rfl

/-- The stores that pack the zero points, at the first point. -/
theorem zeros_A : kernelRun0_A.sl.HS2_4 c arg4 harg4 x3 = kernelRun0_A.sl.HS1_4 c arg4 harg4 x3 := by
  sl_kernel_rfl

/-- A later point packs its scales with the same stores. -/
theorem scales_B : kernelRun0_B.sl.HS1_4 c arg3 harg3 x2 = kernelRun0_A.sl.HS1_4 c arg3 harg3 x2 := by
  sl_kernel_rfl

/-- A later point packs its zero points with the same stores. -/
theorem zeros_B : kernelRun0_B.sl.HS2_4 c arg4 harg4 x3 = kernelRun0_A.sl.HS1_4 c arg4 harg4 x3 := by
  sl_kernel_rfl

end

end Cert.KernelIdeal.Steps

end
-- ==== Proof.Spec.lean ====
/- The computation both programs are shown to do, entry by entry, over the extended reals. -/
module

public import Idealize.ShloMosaic.Lib.Pointwise

@[expose] public section

set_option maxRecDepth 65536

noncomputable section

namespace Cert.Spec

open Idealize.ShloMosaic

/-- The sign of a Hadamard entry: one minus twice the parity of the number of ones in `i & j`. -/
def sgn (i j : ℕ) : EReal :=
  1 - Ideal.ofBits FTy.f32 0x40000000#32 *
    (FloatOps.sitofp FTy.f32 (IntOp.andi (IntOp.ctpop (IntOp.andi (BitVec.ofNat 32 i) (BitVec.ofNat 32 j))) 1#32) : Ideal FTy.f32)

/-- The scale of the Hadamard matrix, one over the square root of 128 rounded to a float. -/
def scale : EReal := Ideal.ofBits FTy.f32 0x3DB504F3#32

/-- Entry `j` of block `q` of a row of activations, rotated. -/
def rot (X : Fin 8192 → EReal) (q : Fin 64) (j : Fin 128) : EReal :=
  ∑ i : Fin 128, X ⟨128 * q.val + i.val, by omega⟩ * (sgn i.val j.val * scale)

/-- The low four bits of a byte, as a number. -/
def codeLo (w : BitVec 8) : EReal :=
  (FloatOps.sitofp FTy.bf16 (IntOp.andi (BitVec.setWidth 32 w) 15#32) : Ideal FTy.bf16)

/-- The high four bits of a byte, as a number. -/
def codeHi (w : BitVec 8) : EReal :=
  (FloatOps.sitofp FTy.bf16 (IntOp.shrsi ArithUnit.host (BitVec.setWidth 32 w) 4#32) : Ideal FTy.bf16)

/-- One entry of the product, group by group: the group's low codes against its own block of activations, and its high
    codes against the block thirty-two further on. -/
def out (X : Fin 8192 → EReal) (W : Fin 4096 → BitVec 8) (S Z : Fin 64 → EReal) : EReal :=
  ∑ g : Fin 32, ∑ j : Fin 128,
    (rot X ⟨g.val, by omega⟩ j * ((codeLo (W ⟨128 * g.val + j.val, by omega⟩) - Z ⟨g.val, by omega⟩) * S ⟨g.val, by omega⟩)
      + rot X ⟨32 + g.val, by omega⟩ j
          * ((codeHi (W ⟨128 * g.val + j.val, by omega⟩) - Z ⟨32 + g.val, by omega⟩) * S ⟨32 + g.val, by omega⟩))

/-- A sum over `a * b` positions, block by block. -/
theorem sum_blocks (a b N : ℕ) (hN : a * b = N) (f : Fin N → EReal) :
    ∑ k, f k = ∑ g : Fin a, ∑ j : Fin b, f ⟨b * g.val + j.val, by
      subst hN; calc b * g.val + j.val < b * g.val + b := by omega
        _ = b * (g.val + 1) := by ring
        _ ≤ b * a := Nat.mul_le_mul_left _ g.isLt
        _ = a * b := Nat.mul_comm _ _⟩ := by
  subst hN
  rw [← Fintype.sum_prod_type', ← Equiv.sum_comp finProdFinEquiv]
  refine Finset.sum_congr rfl fun p _ => congrArg f (Fin.ext ?_)
  simp [finProdFinEquiv, Nat.add_comm]

end Cert.Spec

end
-- ==== Proof.Values.lean ====
/- What the body's operations compute at the ideal numbers, entry by entry. -/
module

public import proofs.«01_k».proof.Proof.Steps
public import proofs.«01_k».proof.Proof.Spec
public import Idealize.ShloMosaic.Lib.BitcastPair

@[expose] public section

set_option maxRecDepth 65536

noncomputable section

namespace Cert.KernelIdeal.Steps

open Cert.KernelIdeal Cert.KernelIdeal.Gen Idealize.ShloMosaic Idealize.ShloMosaic.TcCoe Idealize.SL.Sem

/-- The two halves of the word that packs a byte's two nibbles, read as signed sixteen-bit numbers, are the nibbles. -/
theorem nibbles (v : BitVec 8) :
    ((IntOp.ori (IntOp.andi (BitVec.setWidth 32 v) 15#32)
        (IntOp.shli ArithUnit.vector (IntOp.shrsi ArithUnit.vector (BitVec.setWidth 32 v) 4#32) 16#32)).extractLsb' 0 16).toInt
      = (IntOp.andi (BitVec.setWidth 32 v) 15#32).toInt
    ∧ ((IntOp.ori (IntOp.andi (BitVec.setWidth 32 v) 15#32)
        (IntOp.shli ArithUnit.vector (IntOp.shrsi ArithUnit.vector (BitVec.setWidth 32 v) 4#32) 16#32)).extractLsb' 16 16).toInt
      = (IntOp.shrsi ArithUnit.host (BitVec.setWidth 32 v) 4#32).toInt := by
  revert v
  decide

/-- The index words of the Hadamard block: row `j` or `128 + j`, column `2 * j` or `2 * j + 1`. -/
theorem index_words : ∀ j : Fin 128, IntOp.shrsi ArithUnit.vector (BitVec.ofNat 32 (2 * j.val)) 1#32 = BitVec.ofNat 32 j.val
    ∧ IntOp.shrsi ArithUnit.vector (BitVec.ofNat 32 (2 * j.val + 1)) 1#32 = BitVec.ofNat 32 j.val
    ∧ IntOp.andi (BitVec.ofNat 32 j.val) 127#32 = BitVec.ofNat 32 j.val
    ∧ IntOp.andi (BitVec.ofNat 32 (128 + j.val)) 127#32 = BitVec.ofNat 32 j.val
    ∧ IntOp.cmpi .sge (BitVec.ofNat 32 j.val) 128#32 = 0#1
    ∧ IntOp.cmpi .sge (BitVec.ofNat 32 (128 + j.val)) 128#32 = 1#1
    ∧ IntOp.cmpi .eq (IntOp.andi (BitVec.ofNat 32 (2 * j.val)) 1#32) 1#32 = 0#1
    ∧ IntOp.cmpi .eq (IntOp.andi (BitVec.ofNat 32 (2 * j.val + 1)) 1#32) 1#32 = 1#1 := by
  decide

/-- A row of sixteen-bit halves is the low or high half of the row of words it comes from. -/
theorem half_apply (x : IVec S128x1024 32) (h : S128x1024.Bitcasts 32 S256x1024 16) (a : Fin 256) (r : Fin 128) (e : ℕ) (k : Fin 1024)
    (he : e < 2) (ha : a.val = 2 * r.val + e) :
    bitcast S256x1024 16 x h (ix2 a k) = (x (ix2 r k)).extractLsb' (16 * e) 16 := by
  rw [bitcast_32_16]
  have hrow : Shape.row (⟨2, ![256, 1024]⟩ : Shape) (ix2 a k) = a.val := rfl
  have h1 : Shape.row (⟨2, ![256, 1024]⟩ : Shape) (ix2 a k) % 2 = e := by rw [hrow]; omega
  rw [h1]
  congr 2
  funext c
  match c with
  | ⟨0, _⟩ => exact Fin.ext ((h.srcIdx_row _ _ _ ⟨0, Nat.zero_lt_two⟩ rfl).trans (by rw [hrow]; show a.val / 2 = r.val; omega))
  | ⟨1, _⟩ => exact Fin.ext (h.srcIdx_other _ _ _ ⟨1, Nat.one_lt_two⟩ (by show ¬ 1 + 2 = 2; omega))

/-- A dequantised weight at an even row: the low nibble, less its zero point, times its scale. -/
theorem deq_even (s z : Vec Ideal S1x2x1024 .bf16) (w : Vec Ideal S128x1024 .i8) (b c : Fin 16) (k : Fin 1024) (r : Fin 128)
    (hr : b.val * 16 + c.val = 2 * r.val) :
    deq s z w (ix3 b c k) = (Spec.codeLo (w (ix2 r k)) - z (ix3 0 0 k)) * s (ix3 0 0 k) := by
  have hc : c.val % 2 = 0 := by omega
  pointwise [deq, k0_pay66]
  simp only [hc, if_true, dite_eq_ite, ite_self]
  rw [half_apply _ _ _ r 0 k (by omega) hr]
  pointwise
  have hn := (nibbles (w (ix2 r k))).1
  refine congrArg₂ (· * ·) (congrArg₂ (· - ·) ?_ rfl) rfl
  exact congrArg (fun t : ℤ => ((t : ℝ) : EReal)) hn

/-- A dequantised weight at an odd row: the high nibble, less its zero point, times its scale. -/
theorem deq_odd (s z : Vec Ideal S1x2x1024 .bf16) (w : Vec Ideal S128x1024 .i8) (b c : Fin 16) (k : Fin 1024) (r : Fin 128)
    (hr : b.val * 16 + c.val = 2 * r.val + 1) :
    deq s z w (ix3 b c k) = (Spec.codeHi (w (ix2 r k)) - z (ix3 0 1 k)) * s (ix3 0 1 k) := by
  have hc : ¬ c.val % 2 = 0 := by omega
  pointwise [deq, k0_pay66]
  simp only [hc, if_false, dite_eq_ite, ite_self]
  rw [half_apply _ _ _ r 1 k (by omega) hr]
  pointwise
  have hn := (nibbles (w (ix2 r k))).2
  refine congrArg₂ (· * ·) (congrArg₂ (· - ·) ?_ rfl) rfl
  exact congrArg (fun t : ℤ => ((t : ℝ) : EReal)) hn

/-- One group's contribution to an entry of the sum, its rows taken two by two. -/
theorem step_apply (a : FVec Ideal S16x1024 .f32) (w : FVec Ideal S16x16x1024 .bf16) (x : Vec Ideal S16x256 .bf16)
    (b : Fin 16) (k : Fin 1024) :
    step a w x (ix2 b k) = a (ix2 b k) + ∑ j : Fin 128,
      (x (ix2 b ⟨2 * j.val, by omega⟩) * w (ix3 ⟨2 * j.val / 16, by omega⟩ ⟨2 * j.val % 16, by omega⟩ k)
        + x (ix2 b ⟨2 * j.val + 1, by omega⟩) * w (ix3 ⟨(2 * j.val + 1) / 16, by omega⟩ ⟨(2 * j.val + 1) % 16, by omega⟩ k)) := by
  generalize hR : (∑ j : Fin 128, (_ + _) : EReal) = R
  pointwise [step]
  subst hR
  refine congrArg (_ + ·) ((Spec.sum_blocks 128 2 256 (by norm_num) _).trans ?_)
  exact Finset.sum_congr rfl fun j _ => Fin.sum_univ_two _

/-- The column of signs at an even place is the Hadamard matrix's above and nothing below. -/
theorem had_even (i j : Fin 128) :
    (k0_pay2 (F := Ideal)) (ix2 ⟨i.val, by omega⟩ ⟨2 * j.val, by omega⟩) = Spec.sgn i.val j.val
    ∧ (k0_pay2 (F := Ideal)) (ix2 ⟨128 + i.val, by omega⟩ ⟨2 * j.val, by omega⟩) = 0 := by
  obtain ⟨a1, -, -, -, -, -, a7, -⟩ := index_words j
  obtain ⟨-, -, b3, b4, b5, b6, -, -⟩ := index_words i
  constructor
  · pointwise [k0_pay2]
    rw [a1, a7, b3, b5]
    rfl
  · pointwise [k0_pay2]
    rw [a7, b6]
    rfl

/-- The column of signs at an odd place is nothing above and the Hadamard matrix's below. -/
theorem had_odd (i j : Fin 128) :
    (k0_pay2 (F := Ideal)) (ix2 ⟨i.val, by omega⟩ ⟨2 * j.val + 1, by omega⟩) = 0
    ∧ (k0_pay2 (F := Ideal)) (ix2 ⟨128 + i.val, by omega⟩ ⟨2 * j.val + 1, by omega⟩) = Spec.sgn i.val j.val := by
  obtain ⟨-, a2, -, -, -, -, -, a8⟩ := index_words j
  obtain ⟨-, -, b3, b4, b5, b6, -, -⟩ := index_words i
  constructor
  · pointwise [k0_pay2]
    rw [a8, b5]
    rfl
  · pointwise [k0_pay2]
    rw [a2, a8, b4, b6]
    rfl

end Cert.KernelIdeal.Steps

end
-- ==== Proof.Scratch.lean ====
/- What the body leaves in its scratch buffers and in its output block, as functions of the blocks it loads. -/
module

public import proofs.«01_k».proof.Proof.Values
public import Idealize.ShloMosaic.Lib.Pipeline.Value
public import Idealize.ShloMosaic.Lib.Pipeline.ValueKit
public import Idealize.ShloMosaic.Lib.WholeRead

@[expose] public section

set_option maxRecDepth 65536

noncomputable section

namespace Cert.KernelIdeal.Steps

open Cert.KernelIdeal Cert.KernelIdeal.Gen Idealize.ShloMosaic Idealize.ShloMosaic.TcCoe Idealize.SL.Sem

variable {F : FTy → Type} [FloatOps F]

/-- The packed scratch, from the block of scales (or zero points) it packs. -/
def packed (x : Vec F S64x1024 .bf16) : Vec F S32x2x1024 .bf16 :=
  View.canon (packPieces (fun j => x (rectS0.toLoadRect.idx j)) (fun j => x (rectS16.toLoadRect.idx j))
    (fun j => x (rectS32.toLoadRect.idx j)) (fun j => x (rectS48.toLoadRect.idx j)))

/-- The carried scratch, from the activations. -/
def carried (x : Vec F S16x8192 .bf16) : Vec F S16x8192 .bf16 :=
  View.canon (rotPieces (fun n h j => x ((rectLo n h).toLoadRect.idx j)) (fun n h j => x ((rectHi n h).toLoadRect.idx j)) 32 le_rfl)

/-- The output block, from the codes, scales, zero points and rotated activations. -/
def body (x1 : Vec F S4096x1024 .i8) (x2 x3 : Vec F S64x1024 .bf16) (X : Vec F S16x8192 .bf16) : Vec F S16x1024 .bf16 :=
  truncf .bf16 (acc (fun n h j => packed x2 ((rectRow n h).toLoadRect.idx j)) (fun n h j => packed x3 ((rectRow n h).toLoadRect.idx j))
    (fun n h j => x1 ((rectW n h).toLoadRect.idx j)) (fun n h j => X ((rectX n h).toLoadRect.idx j)) 32 le_rfl) bitsLt_bf16_f32

/-- A load through a whole buffer holding `X` is `X` at the loaded places. -/
theorem readAt_whole {s : Shape} {e : EltTy} {M : Memref sig .tc .vmem s e} (h : M.IsWhole) (X : s.Idx → Elt F e) (B : LoadRect s) :
    View.readAt (Elt F) M.view B (h.unread X) = fun j => X (B.idx j) :=
  funext fun j => h.readAt_unread X B j

section
variable (c : Dev nD) (i : grid0.Coords) (arg1 : Memref sig .tc .vmem S16x8192 .bf16) (harg1 : arg1.IsWhole)
  (arg2 : Memref sig .tc .vmem S4096x1024 .i8) (harg2 : arg2.IsWhole) (arg3 : Memref sig .tc .vmem S64x1024 .bf16) (harg3 : arg3.IsWhole)
  (arg4 : Memref sig .tc .vmem S64x1024 .bf16) (harg4 : arg4.IsWhole) (arg5 : Memref sig .tc .vmem S16x1024 .bf16) (harg5 : arg5.IsWhole)
  (arg6 : Memref sig .tc .vmem S16x8192 .bf16) (harg6 : arg6.IsWhole) (arg7 : Memref sig .tc .vmem S32x2x1024 .bf16) (harg7 : arg7.IsWhole)
  (arg8 : Memref sig .tc .vmem S32x2x1024 .bf16) (harg8 : arg8.IsWhole)
  (x0 : Vec F S16x8192 .bf16) (x1 : Vec F S4096x1024 .i8) (x2 x3 : Vec F S64x1024 .bf16) (xs0 : Vec F S16x8192 .bf16)

/-- The packing stores leave the packed scratch. -/
theorem canon_scales : View.canon (kernelRun0_A.sl.HS1_4 c arg3 harg3 x2) = packed x2 := by
  rw [scales_A]
  simp only [readAt_whole]
  rfl

/-- The rotating stores leave the carried scratch. -/
theorem canon_rotated : View.canon (kernelRun0_A.sl.HS0_32 c arg1 harg1 x0) = carried x0 := by
  rw [rotated_A]
  simp only [readAt_whole]
  rfl

/-- What the first point leaves in the carried scratch. -/
theorem sout_A (hc0 : cond0_0 i) :
    sout0_A_0 c i arg1 harg1 arg2 harg2 arg3 harg3 arg4 harg4 arg5 harg5 arg6 harg6 arg7 harg7 arg8 harg8 hc0 x0 x1 x2 x3 = carried x0 := by
  unfold sout0_A_0
  rw [View.read_writes_junk_eq_canon, carried_A, canon_rotated]

/-- What the first point leaves in its output block. -/
theorem out_A (hc0 : cond0_0 i) :
    out0_A_4 c i arg1 harg1 arg2 harg2 arg3 harg3 arg4 harg4 arg5 harg5 arg6 harg6 arg7 harg7 arg8 harg8 hc0 x0 x1 x2 x3
      = body x1 x2 x3 (carried x0) := by
  unfold out0_A_4 body
  rw [View.read_writes_junk_eq_canon, pieces_A, View.canon_cons_unit_lit _ _ _ (by decide), zeros_A]
  simp only [View.readCov_eq_canon', canon_scales, canon_rotated, readAt_whole]
  rfl

/-- What a later point leaves in its output block. -/
theorem out_B (hc0 : ¬cond0_0 i) :
    out0_B_4 c i arg1 harg1 arg2 harg2 arg3 harg3 arg4 harg4 arg5 harg5 arg6 harg6 arg7 harg7 arg8 harg8 hc0 x0 x1 x2 x3 xs0
      = body x1 x2 x3 xs0 := by
  unfold out0_B_4 body
  rw [View.read_writes_junk_eq_canon, pieces_B, View.canon_cons_unit_lit _ _ _ (by decide), scales_B, zeros_B]
  simp only [View.readCov_eq_canon', canon_scales, readAt_whole]
  rfl

end

/-- The carried scratch at the `n`-th 256 columns is the `n`-th rotated block. -/
theorem canon_rot (lo hi : (n : ℕ) → n < 32 → Vec F S16x128 .bf16) : ∀ (N : ℕ) (hN : N ≤ 32) (n : ℕ) (h : n < 32) (_ : n < N)
    (j : S16x256.Idx), View.canon (rotPieces lo hi N hN) ((rectX n h).emb j) = rot (lo n h) (hi n h) j
  | 0, _, _, _, hn, _ => absurd hn (Nat.not_lt_zero _)
  | N + 1, hN, n, h, hn, j => by
    by_cases e : n = N
    · subst e
      exact View.canon_cons_emb _ _ _ _
    · refine (View.canon_cons_of_not_mem _ _ fun hm => ?_).trans (canon_rot lo hi N _ n h (by omega) j)
      have h1 : 256 * N ≤ ((rectX n h).emb j 1).val ∧ ((rectX n h).emb j 1).val < 256 * N + 256 :=
        (Rect.mem_set_unit (inb := inbX (Nat.lt_of_succ_le hN))).1 hm 1
      have h2 : ((rectX n h).emb j 1).val = 256 * n + (j 1).val := ValueKit.rect_emb_unit_val _ _ _ _ _
      have h3 : (j 1).val < 256 := (j 1).isLt
      omega

/-- A place of the packed scratch, by the eight rows it is in. -/
theorem row_emb (o : ℕ) (inb : ∀ a, ![o, 0, 0] a + S8x2x1024.size a ≤ S32x2x1024.size a) (R : Fin 32) (r : Fin 8) (q : Fin 2) (k : Fin 1024)
    (hR : R.val = o + r.val) : (ix3 R q k : S32x2x1024.Idx) = (Rect.unit ![o, 0, 0] S8x2x1024.size inb : Rect S32x2x1024).emb (ix3 r q k) := by
  funext a
  apply Fin.ext
  refine Eq.trans ?_ (ValueKit.rect_emb_unit_val _ _ _ _ _).symm
  match a with
  | ⟨0, _⟩ => exact hR
  | ⟨1, _⟩ => exact (Nat.zero_add _).symm
  | ⟨2, _⟩ => exact (Nat.zero_add _).symm

/-- A place of the packed scratch is in no other eight rows. -/
theorem row_not_mem (o : ℕ) (inb : ∀ a, ![o, 0, 0] a + S8x2x1024.size a ≤ S32x2x1024.size a) (R : Fin 32) (q : Fin 2) (k : Fin 1024)
    (hR : R.val < o ∨ o + 8 ≤ R.val) : (ix3 R q k : S32x2x1024.Idx) ∉ (Rect.unit ![o, 0, 0] S8x2x1024.size inb : Rect S32x2x1024).set := fun hm => by
  have h : o ≤ R.val ∧ R.val < o + 8 := Rect.mem_set_unit.1 hm 0
  omega

/-- A store of eight other rows does not change a place. -/
theorem canon_skip (o : ℕ) (inb : ∀ a, ![o, 0, 0] a + S8x2x1024.size a ≤ S32x2x1024.size a) (w : Vec F S8x2x1024 .bf16)
    (L : List (View.Piece (Elt F) S32x2x1024 .bf16)) (R : Fin 32) (q : Fin 2) (k : Fin 1024) (hR : R.val < o ∨ o + 8 ≤ R.val) :
    View.canon (⟨(Rect.unit ![o, 0, 0] S8x2x1024.size inb : Rect S32x2x1024), w⟩ :: L) (ix3 R q k) = View.canon L (ix3 R q k) :=
  View.canon_cons_of_not_mem _ _ (row_not_mem o inb R q k hR)

/-- A store of the place's eight rows leaves what it stores. -/
theorem canon_take (o : ℕ) (inb : ∀ a, ![o, 0, 0] a + S8x2x1024.size a ≤ S32x2x1024.size a) (w : Vec F S8x2x1024 .bf16)
    (L : List (View.Piece (Elt F) S32x2x1024 .bf16)) (R : Fin 32) (r : Fin 8) (q : Fin 2) (k : Fin 1024) (hR : R.val = o + r.val) :
    View.canon (⟨(Rect.unit ![o, 0, 0] S8x2x1024.size inb : Rect S32x2x1024), w⟩ :: L) (ix3 R q k) = w (ix3 r q k) :=
  (congrArg _ (row_emb o inb R r q k hR)).trans (View.canon_cons_emb _ _ _ _)

/-- A row of the packed scratch is a row of the first or of the second of the two blocks packed into it. -/
theorem pack_apply (p : Fin 2) (lo hi : Vec F S16x1024 .bf16) (r : Fin 8) (q : Fin 2) (k : Fin 1024) :
    pack p lo hi (ix3 r q k) = if q.val % 2 = 0 then lo (ix2 ⟨2 * r.val + p.val, by omega⟩ k) else hi (ix2 ⟨2 * r.val + p.val, by omega⟩ k) := by
  pointwise [pack]

/-- The packed scratch at group `n`'s row holds the group's own row of scales and the one thirty-two further down. -/
theorem packed_apply (x : Vec F S64x1024 .bf16) (n : ℕ) (h : n < 32) (q : Fin 2) (k : Fin 1024) :
    packed x ((rectRow n h).toLoadRect.idx (ix3 0 q k)) = x (ix2 ⟨32 * q.val + n, by omega⟩ k) := by
  have hy : (rectRow n h).toLoadRect.idx (ix3 0 q k) = ix3 ⟨row n, row_lt h⟩ q k := by
    funext a
    apply Fin.ext
    refine (ValueKit.rect_emb_unit_val _ _ _ _ _).trans ?_
    match a with
    | ⟨0, _⟩ => exact Nat.add_zero _
    | ⟨1, _⟩ => exact Nat.zero_add _
    | ⟨2, _⟩ => exact Nat.zero_add _
  have hx : ∀ (o : ℕ) (inb : ∀ a, ![o, 0] a + S16x1024.size a ≤ S64x1024.size a) (r : Fin 16) (R : Fin 64), R.val = o + r.val →
      x ((Rect.unit ![o, 0] S16x1024.size inb : Rect S64x1024).toLoadRect.idx (ix2 r k)) = x (ix2 R k) := fun o inb r R hR => by
    refine congrArg x (funext fun a => Fin.ext ((ValueKit.rect_emb_unit_val _ _ _ _ _).trans ?_))
    match a with
    | ⟨0, _⟩ => exact hR.symm
    | ⟨1, _⟩ => exact Nat.zero_add _
  have hR : (⟨row n, row_lt h⟩ : Fin 32).val = 16 * (n / 16) + 8 * (n % 2) + n % 16 / 2 := rfl
  generalize (⟨row n, row_lt h⟩ : Fin 32) = R at hR hy
  obtain ⟨r, hr⟩ : ∃ r : Fin 8, r.val = n % 16 / 2 := ⟨⟨n % 16 / 2, by omega⟩, rfl⟩
  rw [hy]
  unfold packed packPieces
  by_cases hb : n < 16 <;> by_cases hp : n % 2 = 0
  · refine (canon_skip 24 _ _ _ R q k (by omega)).trans ?_
    refine (canon_skip 16 _ _ _ R q k (by omega)).trans ?_
    refine (canon_skip 8 _ _ _ R q k (by omega)).trans ?_
    refine (canon_take 0 _ _ _ R r q k (by omega)).trans ?_
    rw [pack_apply]
    split
    · exact hx 0 _ _ _ (by show 32 * q.val + n = 0 + (2 * r.val + 0); omega)
    · exact hx 32 _ _ _ (by show 32 * q.val + n = 32 + (2 * r.val + 0); omega)
  · refine (canon_skip 24 _ _ _ R q k (by omega)).trans ?_
    refine (canon_skip 16 _ _ _ R q k (by omega)).trans ?_
    refine (canon_take 8 _ _ _ R r q k (by omega)).trans ?_
    rw [pack_apply]
    split
    · exact hx 0 _ _ _ (by show 32 * q.val + n = 0 + (2 * r.val + 1); omega)
    · exact hx 32 _ _ _ (by show 32 * q.val + n = 32 + (2 * r.val + 1); omega)
  · refine (canon_skip 24 _ _ _ R q k (by omega)).trans ?_
    refine (canon_take 16 _ _ _ R r q k (by omega)).trans ?_
    rw [pack_apply]
    split
    · exact hx 16 _ _ _ (by show 32 * q.val + n = 16 + (2 * r.val + 0); omega)
    · exact hx 48 _ _ _ (by show 32 * q.val + n = 48 + (2 * r.val + 0); omega)
  · refine (canon_take 24 _ _ _ R r q k (by omega)).trans ?_
    rw [pack_apply]
    split
    · exact hx 16 _ _ _ (by show 32 * q.val + n = 16 + (2 * r.val + 1); omega)
    · exact hx 48 _ _ _ (by show 32 * q.val + n = 48 + (2 * r.val + 1); omega)

end Cert.KernelIdeal.Steps

end
-- ==== Proof.Entry.lean ====
/- The body's output block at the ideal numbers: each entry is the specification's, over the blocks the body loads. -/
module

public import proofs.«01_k».proof.Proof.Scratch

@[expose] public section

set_option maxRecDepth 65536

noncomputable section

namespace Cert.KernelIdeal.Steps

open Cert.KernelIdeal Cert.KernelIdeal.Gen Idealize.ShloMosaic Idealize.ShloMosaic.TcCoe Idealize.SL.Sem

/-- The scale is a real number, and not negative. -/
theorem scale_real : ∃ r : ℝ, 0 ≤ r ∧ Spec.scale = (r : EReal) := by
  refine ⟨_, ?_, by simp [Spec.scale, Ideal.ofBits, Ideal.ieee, -EReal.coe_mul]; rfl⟩
  positivity

/-- The scale goes under a sum. -/
theorem sum_scale {n : ℕ} (f : Fin n → EReal) : (∑ i, f i) * Spec.scale = ∑ i, f i * Spec.scale := by
  obtain ⟨r, hr, e⟩ := scale_real
  have h0 : (0 : EReal) ≤ Spec.scale := by rw [e]; exact_mod_cast hr
  have ht : Spec.scale ≠ ⊤ := by rw [e]; exact EReal.coe_ne_top r
  exact map_sum (⟨⟨(· * Spec.scale), zero_mul _⟩, fun a b => EReal.right_distrib_of_nonneg_of_ne_top h0 ht a b⟩ : EReal →+ EReal) f _

/-- A rotated block at an even place: the first of its two blocks, rotated. -/
theorem rot_even (lo hi : Vec Ideal S16x128 .bf16) (b : Fin 16) (j : Fin 128) :
    rot lo hi (ix2 b ⟨2 * j.val, by omega⟩) = ∑ i : Fin 128, lo (ix2 b i) * (Spec.sgn i.val j.val * Spec.scale) := by
  have h1 := fun i => (had_even i j).1
  have h2 := fun i => (had_even i j).2
  generalize hR : (∑ i : Fin 128, lo (ix2 b i) * (Spec.sgn i.val j.val * Spec.scale) : EReal) = R
  generalize (⟨2 * j.val, _⟩ : Fin 256) = k at h1 h2
  pointwise [rot, k0_pay3]
  simp only [h1, h2, mul_zero, Finset.sum_const_zero, add_zero]
  rw [← hR]
  refine (sum_scale _).trans (Finset.sum_congr rfl fun i _ => mul_assoc _ _ _)

/-- A rotated block at an odd place: the second of its two blocks, rotated. -/
theorem rot_odd (lo hi : Vec Ideal S16x128 .bf16) (b : Fin 16) (j : Fin 128) :
    rot lo hi (ix2 b ⟨2 * j.val + 1, by omega⟩) = ∑ i : Fin 128, hi (ix2 b i) * (Spec.sgn i.val j.val * Spec.scale) := by
  have h1 := fun i => (had_odd i j).1
  have h2 := fun i => (had_odd i j).2
  generalize hR : (∑ i : Fin 128, hi (ix2 b i) * (Spec.sgn i.val j.val * Spec.scale) : EReal) = R
  generalize (⟨2 * j.val + 1, _⟩ : Fin 256) = k at h1 h2
  pointwise [rot, k0_pay3]
  simp only [h1, h2, mul_zero, Finset.sum_const_zero, zero_add]
  rw [← hR]
  refine (sum_scale _).trans (Finset.sum_congr rfl fun i _ => mul_assoc _ _ _)

/-- What one group adds to an entry of the output block. -/
def term (s z : Vec Ideal S1x2x1024 .bf16) (w : Vec Ideal S128x1024 .i8) (x : Vec Ideal S16x256 .bf16) (b : Fin 16) (k : Fin 1024) : EReal :=
  ∑ j : Fin 128, (x (ix2 b ⟨2 * j.val, by omega⟩) * ((Spec.codeLo (w (ix2 j k)) - z (ix3 0 0 k)) * s (ix3 0 0 k))
    + x (ix2 b ⟨2 * j.val + 1, by omega⟩) * ((Spec.codeHi (w (ix2 j k)) - z (ix3 0 1 k)) * s (ix3 0 1 k)))

/-- A step adds its group's term. -/
theorem step_term (a : FVec Ideal S16x1024 .f32) (s z : Vec Ideal S1x2x1024 .bf16) (w : Vec Ideal S128x1024 .i8)
    (x : Vec Ideal S16x256 .bf16) (b : Fin 16) (k : Fin 1024) :
    step a (deq s z w) x (ix2 b k) = a (ix2 b k) + term s z w x b k := by
  rw [step_apply]
  refine congrArg (_ + ·) (Finset.sum_congr rfl fun j _ => ?_)
  rw [deq_even s z w ⟨2 * j.val / 16, by omega⟩ ⟨2 * j.val % 16, by omega⟩ k j (by show 2 * j.val / 16 * 16 + 2 * j.val % 16 = _; omega),
    deq_odd s z w ⟨(2 * j.val + 1) / 16, by omega⟩ ⟨(2 * j.val + 1) % 16, by omega⟩ k j
      (by show (2 * j.val + 1) / 16 * 16 + (2 * j.val + 1) % 16 = _; omega)]

/-- The sum over the first `n` groups, at an entry. -/
theorem acc_apply (s z : (n : ℕ) → n < 32 → Vec Ideal S1x2x1024 .bf16) (w : (n : ℕ) → n < 32 → Vec Ideal S128x1024 .i8)
    (x : (n : ℕ) → n < 32 → Vec Ideal S16x256 .bf16) (b : Fin 16) (k : Fin 1024) : ∀ (n : ℕ) (h : n ≤ 32),
    acc s z w x n h (ix2 b k) = ∑ g : Fin n, term (s g.val (by omega)) (z g.val (by omega)) (w g.val (by omega)) (x g.val (by omega)) b k
  | 0, _ => Ideal.ofBits_zero_f32
  | n + 1, h => by
    rw [Fin.sum_univ_castSucc]
    exact (step_term _ _ _ _ _ b k).trans (congrArg (· + _) (acc_apply s z w x b k n _))

/-- A block of 128 columns of the activations, by where it starts. -/
theorem lane_apply (x : Vec Ideal S16x8192 .bf16) (o : ℕ) (inb : ∀ a, ![0, o] a + S16x128.size a ≤ S16x8192.size a) (b : Fin 16)
    (i : Fin 128) (k : Fin 8192) (hk : k.val = o + i.val) :
    x ((Rect.unit ![0, o] S16x128.size inb : Rect S16x8192).toLoadRect.idx (ix2 b i)) = x (ix2 b k) := by
  refine congrArg x (funext fun a => Fin.ext ((ValueKit.rect_emb_unit_val _ _ _ _ _).trans ?_))
  match a with
  | ⟨0, _⟩ => exact Nat.zero_add _
  | ⟨1, _⟩ => exact hk.symm

/-- The carried scratch at an even place of group `n` is block `n` of the activations, rotated. -/
theorem carried_even (x : Vec Ideal S16x8192 .bf16) (n : ℕ) (h : n < 32) (b : Fin 16) (j : Fin 128) :
    carried x ((rectX n h).toLoadRect.idx (ix2 b ⟨2 * j.val, by omega⟩)) = Spec.rot (fun k => x (ix2 b k)) ⟨n, by omega⟩ j := by
  refine (canon_rot _ _ 32 le_rfl n h h _).trans ((rot_even _ _ b j).trans (Finset.sum_congr rfl fun i _ => congrArg (· * _) ?_))
  exact lane_apply x _ _ b i _ rfl

/-- The carried scratch at an odd place of group `n` is the block thirty-two further on, rotated. -/
theorem carried_odd (x : Vec Ideal S16x8192 .bf16) (n : ℕ) (h : n < 32) (b : Fin 16) (j : Fin 128) :
    carried x ((rectX n h).toLoadRect.idx (ix2 b ⟨2 * j.val + 1, by omega⟩)) = Spec.rot (fun k => x (ix2 b k)) ⟨32 + n, by omega⟩ j := by
  refine (canon_rot _ _ 32 le_rfl n h h _).trans ((rot_odd _ _ b j).trans (Finset.sum_congr rfl fun i _ => congrArg (· * _) ?_))
  refine lane_apply x _ _ b i _ ?_
  show 128 * (32 + n) + i.val = 4096 + 128 * n + i.val
  omega

/-- The codes of group `n`. -/
theorem codes_apply (w : Vec Ideal S4096x1024 .i8) (n : ℕ) (h : n < 32) (j : Fin 128) (k : Fin 1024) :
    w ((rectW n h).toLoadRect.idx (ix2 j k)) = w (ix2 ⟨128 * n + j.val, by omega⟩ k) := by
  refine congrArg w (funext fun a => Fin.ext ((ValueKit.rect_emb_unit_val _ _ _ _ _).trans ?_))
  match a with
  | ⟨0, _⟩ => rfl
  | ⟨1, _⟩ => exact Nat.zero_add _

/-- The first row of group `n`'s pair of rows is row `n`. -/
theorem packed_lo (x : Vec Ideal S64x1024 .bf16) (n : ℕ) (h : n < 32) (k : Fin 1024) :
    packed x ((rectRow n h).toLoadRect.idx (ix3 0 0 k)) = x (ix2 ⟨n, by omega⟩ k) :=
  (packed_apply x n h 0 k).trans (congrArg (fun r => x (ix2 r k)) (Fin.ext (Nat.zero_add n)))

/-- The second row of group `n`'s pair of rows is row `32 + n`. -/
theorem packed_hi (x : Vec Ideal S64x1024 .bf16) (n : ℕ) (h : n < 32) (k : Fin 1024) :
    packed x ((rectRow n h).toLoadRect.idx (ix3 0 1 k)) = x (ix2 ⟨32 + n, by omega⟩ k) :=
  packed_apply x n h 1 k

/-- An entry of the output block is the specification's, over the blocks the body loads. -/
theorem body_apply (x0 : Vec Ideal S16x8192 .bf16) (x1 : Vec Ideal S4096x1024 .i8) (x2 x3 : Vec Ideal S64x1024 .bf16)
    (b : Fin 16) (k : Fin 1024) :
    body x1 x2 x3 (carried x0) (ix2 b k)
      = Spec.out (fun i => x0 (ix2 b i)) (fun r => x1 (ix2 r k)) (fun g => x2 (ix2 g k)) (fun g => x3 (ix2 g k)) := by
  refine (acc_apply _ _ _ _ b k 32 le_rfl).trans (Finset.sum_congr rfl fun g _ => Finset.sum_congr rfl fun j _ => ?_)
  beta_reduce
  rw [carried_even x0 g.val g.isLt b j, carried_odd x0 g.val g.isLt b j, codes_apply x1 g.val g.isLt j k, packed_lo x2 g.val g.isLt k,
    packed_lo x3 g.val g.isLt k, packed_hi x2 g.val g.isLt k, packed_hi x3 g.val g.isLt k]

end Cert.KernelIdeal.Steps

end
-- ==== Proof.Grid.lean ====
/- The array the kernel leaves, entry by entry: the specification's, over the kernel's arguments. -/
module

public import proofs.«01_k».proof.Proof.Entry
public import proofs.«01_k».proof.Proof.Gen.KernelIdeal.Value

@[expose] public section

set_option maxRecDepth 65536

noncomputable section

namespace Cert.KernelIdeal.Steps

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- Where the windows of a point lie: the activations are whole, the other arrays are cut in blocks of columns. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- Every point loads the activations whole. -/
theorem block0 (t : Fin cfg0.N) (b : Fin 16) (k : Fin 8192) :
    iblk m c 0 t (ix2 b k) = m ((c : Thread nD τ).loc main_arg0) (ix3 b 0 k) := by
  blk_ext! [iblk, V, idx t]

/-- A point's block of codes. -/
theorem block1 (t : Fin cfg0.N) (r : Fin 4096) (k : Fin 1024) (n : Fin 22528) (h : n.val = 1024 * t.val + k.val) :
    iblk m c 1 t (ix2 r k) = m ((c : Thread nD τ).loc main_arg1) (ix2 r n) := by
  blk_ext [iblk, V, idx t]

/-- A point's block of scales. -/
theorem block2 (t : Fin cfg0.N) (r : Fin 64) (k : Fin 1024) (n : Fin 22528) (h : n.val = 1024 * t.val + k.val) :
    iblk m c 2 t (ix2 r k) = m ((c : Thread nD τ).loc main_arg2) (ix2 r n) := by
  blk_ext [iblk, V, idx t]

/-- A point's block of zero points. -/
theorem block3 (t : Fin cfg0.N) (r : Fin 64) (k : Fin 1024) (n : Fin 22528) (h : n.val = 1024 * t.val + k.val) :
    iblk m c 3 t (ix2 r k) = m ((c : Thread nD τ).loc main_arg3) (ix2 r n) := by
  blk_ext [iblk, V, idx t]

/-- The activations, as every point loads them. -/
def acts : Vec Ideal S16x8192 .bf16 := fun i => m ((c : Thread nD τ).loc main_arg0) (ix3 (i 0) 0 (i 1))

/-- Every point's block of activations is the activations. -/
theorem block0_eq (t : Fin cfg0.N) : (iblk m c 0 t : Vec Ideal S16x8192 .bf16) = acts m c :=
  funext fun i => (congrArg (iblk m c 0 t : Vec Ideal S16x8192 .bf16) (eq_ix2 i)).trans (block0 m c t (i 0) (i 1))

/-- What each point leaves: its output block, and the carried scratch that the first point filled. -/
theorem outs : ∀ (n : ℕ) (hn : n < cfg0.N),
    outsAt0 m c n hn = (body (iblk m c 1 ⟨n, hn⟩) (iblk m c 2 ⟨n, hn⟩) (iblk m c 3 ⟨n, hn⟩) (carried (acts m c)), carried (acts m c))
  | 0, hn => by
    refine (outsAt0_zero m c hn).trans ((stAt0_A m c ⟨0, hn⟩ junk0 rfl).trans ?_)
    rw [out_A, sout_A, block0_eq]
  | n + 1, hn => by
    have hN := lt_of_lt_of_eq hn (show cfg0.N = 22 from N_0)
    refine (outsAt0_succ m c n hn).trans ?_
    rw [outs n]
    refine (stAt0_B m c ⟨n + 1, hn⟩ _ (by show ¬(n + 1) % 22 = 0; omega)).trans ?_
    rw [out_B]
    rfl

/-- Every entry of the array the kernel leaves is the specification's, over the kernel's arguments. -/
theorem result_apply (b : Fin 16) (n : Fin 22528) :
    G4 m c (ix2 b n) = Spec.out (fun k => m ((c : Thread nD τ).loc main_arg0) (ix3 b 0 k))
      (fun k => m ((c : Thread nD τ).loc main_arg1) (ix2 k n)) (fun g => m ((c : Thread nD τ).loc main_arg2) (ix2 g n))
      (fun g => m ((c : Thread nD τ).loc main_arg3) (ix2 g n)) := by
  have hp : pt4Of (ix2 b n) = n.val / 1024 := by
    show 22 * (b.val / 16 - 0) + 1 * (n.val / 1024 - 0) = _
    omega
  have hlt : pt4Of (ix2 b n) < cfg0.N := by
    rw [hp]
    refine lt_of_lt_of_eq ?_ (show 22 = cfg0.N from N_0.symm)
    omega
  have hl : loc4Of (ix2 b n) = ix2 b ⟨n.val % 1024, Nat.mod_lt _ (by decide)⟩ := by
    funext a
    apply Fin.ext
    match a with
    | ⟨0, _⟩ => exact Nat.mod_eq_of_lt b.isLt
    | ⟨1, _⟩ => rfl
  have hn : n.val = 1024 * pt4Of (ix2 b n) + n.val % 1024 := by rw [hp]; omega
  unfold G4
  rw [dif_pos hlt, ← outsAt0_sweep m c _ hlt, outs, hl]
  generalize pt4Of (ix2 b n) = t at hlt hn
  refine (body_apply (acts m c) _ _ _ b _).trans ?_
  have e1 := fun r => block1 m c ⟨t, hlt⟩ r ⟨n.val % 1024, Nat.mod_lt _ (by decide)⟩ n hn
  have e2 := fun r => block2 m c ⟨t, hlt⟩ r ⟨n.val % 1024, Nat.mod_lt _ (by decide)⟩ n hn
  have e3 := fun r => block3 m c ⟨t, hlt⟩ r ⟨n.val % 1024, Nat.mod_lt _ (by decide)⟩ n hn
  rw [funext e1, funext e2, funext e3]
  rfl

end Cert.KernelIdeal.Steps

end
-- ==== Proof.Reference.lean ====
/- What the reference computes at the ideal numbers, entry by entry. -/
module

public import proofs.«01_k».proof.Proof.Gen.ReferenceIdeal.Run
public import proofs.«01_k».proof.Proof.Spec

@[expose] public section

set_option maxRecDepth 65536

noncomputable section

namespace Cert.ReferenceIdeal.Entry

open Cert.ReferenceIdeal Cert.ReferenceIdeal.Gen Cert.ReferenceIdeal.Value Idealize.ShloMosaic Idealize.ShloMosaic.TcCoe Idealize.SL.Sem

/-- The reference's operations, composed: its result over its four arguments. -/
def out (x : FVec Ideal S16x1x8192 .bf16) (w : IVec S4096x22528 8) (s z : FVec Ideal S64x22528 .bf16) : FVec Ideal S16x22528 .bf16 :=
  shapeCast _ (truncf .bf16 (addf (Host.dotGeneral dot_S16x1x4096_S4096x22528_S16x1x22528_2_0_01_1_n_n none (extractStridedSlice S16x1x4096 ![0, 0, 0] (truncf .bf16 (shapeCast _ (Host.dotGeneral dot_S16x1x64x128_S128x128_S16x1x64x128_3_0_012_1_n_n (some .fp32) (shapeCast _ (extf .f32 x bitsLt_bf16_f32) shapeCasts_S16x1x8192_S16x1x64x128) (mulf (subf (broadcastInDim S128x128 ![] bcast_S_S128x128 (constant S_ .f32 0x3F800000#32)) (mulf (broadcastInDim S128x128 ![] bcast_S_S128x128 (constant S_ .f32 0x40000000#32)) (sitofp .f32 (andi (ctpop (andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 1#32)))))) (broadcastInDim S128x128 ![] bcast_S_S128x128 (constant S_ .f32 0x3DB504F3#32)))) shapeCasts_S16x1x64x128_S16x1x8192) bitsLt_bf16_f32) slices_S16x1x8192_S16x1x4096_0_0_0) (shapeCast _ (mulf (subf (shapeCast _ (sitofp .bf16 (andi (extui 32 w natLt_8_32) (broadcastInDim S4096x22528 ![] bcast_S_S4096x22528 (constantI S_ 32 15#32)))) shapeCasts_S4096x22528_S32x128x22528) (broadcastInDim S32x128x22528 ![0, 1, 2] bcast_S32x1x22528_S32x128x22528_0_1_2 (broadcastInDim S32x1x22528 ![0, 2] bcast_S32x22528_S32x1x22528_0_2 (extractStridedSlice S32x22528 ![0, 0] z slices_S64x22528_S32x22528_0_0)))) (broadcastInDim S32x128x22528 ![0, 1, 2] bcast_S32x1x22528_S32x128x22528_0_1_2 (broadcastInDim S32x1x22528 ![0, 2] bcast_S32x22528_S32x1x22528_0_2 (extractStridedSlice S32x22528 ![0, 0] s slices_S64x22528_S32x22528_0_0)))) shapeCasts_S32x128x22528_S4096x22528)) (Host.dotGeneral dot_S16x1x4096_S4096x22528_S16x1x22528_2_0_01_1_n_n none (extractStridedSlice S16x1x4096 ![0, 0, 4096] (truncf .bf16 (shapeCast _ (Host.dotGeneral dot_S16x1x64x128_S128x128_S16x1x64x128_3_0_012_1_n_n (some .fp32) (shapeCast _ (extf .f32 x bitsLt_bf16_f32) shapeCasts_S16x1x8192_S16x1x64x128) (mulf (subf (broadcastInDim S128x128 ![] bcast_S_S128x128 (constant S_ .f32 0x3F800000#32)) (mulf (broadcastInDim S128x128 ![] bcast_S_S128x128 (constant S_ .f32 0x40000000#32)) (sitofp .f32 (andi (ctpop (andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 1#32)))))) (broadcastInDim S128x128 ![] bcast_S_S128x128 (constant S_ .f32 0x3DB504F3#32)))) shapeCasts_S16x1x64x128_S16x1x8192) bitsLt_bf16_f32) slices_S16x1x8192_S16x1x4096_0_0_4096) (shapeCast _ (mulf (subf (shapeCast _ (sitofp .bf16 (Host.shrsi (extui 32 w natLt_8_32) (broadcastInDim S4096x22528 ![] bcast_S_S4096x22528 (constantI S_ 32 4#32)))) shapeCasts_S4096x22528_S32x128x22528) (broadcastInDim S32x128x22528 ![0, 1, 2] bcast_S32x1x22528_S32x128x22528_0_1_2 (broadcastInDim S32x1x22528 ![0, 2] bcast_S32x22528_S32x1x22528_0_2 (extractStridedSlice S32x22528 ![32, 0] z slices_S64x22528_S32x22528_32_0)))) (broadcastInDim S32x128x22528 ![0, 1, 2] bcast_S32x1x22528_S32x128x22528_0_1_2 (broadcastInDim S32x1x22528 ![0, 2] bcast_S32x22528_S32x1x22528_0_2 (extractStridedSlice S32x22528 ![32, 0] s slices_S64x22528_S32x22528_32_0)))) shapeCasts_S32x128x22528_S4096x22528))) bitsLt_bf16_f32) shapeCasts_S16x1x22528_S16x22528

/-- Every entry of the reference's result is the specification's. -/
theorem out_apply (x : FVec Ideal S16x1x8192 .bf16) (w : IVec S4096x22528 8) (s z : FVec Ideal S64x22528 .bf16)
    (b : Fin 16) (n : Fin 22528) :
    out x w s z (ix2 b n)
      = Spec.out (fun k => x (ix3 b 0 k)) (fun k => w (ix2 k n)) (fun g => s (ix2 g n)) (fun g => z (ix2 g n)) := by
  generalize hR : Spec.out _ _ _ _ = R
  pointwise [out]
  subst hR
  refine (congrArg₂ (· + ·) (Spec.sum_blocks 32 128 4096 (by norm_num) _) (Spec.sum_blocks 32 128 4096 (by norm_num) _)).trans ?_
  rw [← Finset.sum_add_distrib]
  unfold Spec.out
  refine Finset.sum_congr rfl fun g _ => ?_
  rw [← Finset.sum_add_distrib]
  refine Finset.sum_congr rfl fun j _ => ?_
  generalize hk : (⟨128 * g.val + j.val, _⟩ : Fin 4096) = k
  have hv : k.val = 128 * g.val + j.val := by rw [← hk]
  have hq : k.val / 128 = g.val := by omega
  have hr : k.val % 128 = j.val := by omega
  have hq' : (4096 + k.val) / 128 = 32 + g.val := by omega
  have hr' : (4096 + k.val) % 128 = j.val := by omega
  clear hk hv
  simp only [hq, hr, hq', hr', Nat.mul_comm g.val 128, Nat.mul_comm (32 + g.val) 128]
  simp only [Spec.rot, Spec.sgn, Spec.scale, Spec.codeLo, Spec.codeHi]

end Cert.ReferenceIdeal.Entry

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Grid
public import proofs.«01_k».proof.Proof.Reference
public import Idealize.ShloMosaic.Lib.Bf16PairInverse
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-- The ideal pass's rewrites mean what they should: one statement per shape at which 16-bit rows stand for the halves
    of 32-bit words. -/
theorem preserves : Cert.preserves_Kernel_KernelIdeal :=
  ⟨IdealRules.bf16_pair.bufferStatement _ _, IdealRules.bf16_pair.statement _ _, IdealRules.bf16_pair.statement _ _,
    IdealRules.bf16_pair.statement _ _⟩

/-- The reference runs, leaves its arguments as they were, and has no semaphore that could be left unbalanced. -/
theorem frame_r : Cert.quiescent_ReferenceIdeal (hReferenceIdeal := Cert.ReferenceIdeal.Gen.facts) :=
  fun m ρ _ => (θ_run (Cert.ReferenceIdeal.defs (F := Ideal)) _ _).mono (fun r h => And.intro (fun c => (h c).2)
    (sem_eq_zero_of_no_sems (by rfl) r.2)) (Cert.ReferenceIdeal.Value.run m ρ)

/-- The kernel and the reference leave the same array: every entry of either is the specification's, over the arguments. -/
theorem same (m : (ℓ : Loc Cert.KernelIdeal.nD Cert.KernelIdeal.τ Cert.KernelIdeal.sig) → Buf (Elt Ideal) ℓ) (c : Dev Cert.KernelIdeal.nD) :
    Cert.ReferenceIdeal.Entry.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Value.G4 m c := by
  funext i
  rw [eq_ix2 i]
  exact (Cert.ReferenceIdeal.Entry.out_apply _ _ _ _ (i 0) (i 1)).trans (Cert.KernelIdeal.Steps.result_apply m c (i 0) (i 1)).symm

/-- Over the extended reals the kernel and the reference compute the same function. -/
theorem algebraic : Cert.algebraic_KernelIdeal_ReferenceIdeal (hKernelIdeal := Cert.KernelIdeal.Gen.facts)
    (hReferenceIdeal := Cert.ReferenceIdeal.Gen.facts) := fun m g m' g' _ hagree =>
  ⟨Cert.KernelIdeal.Value.G4 m, Cert.KernelIdeal.Value.run m g,
    (θ_run (Cert.ReferenceIdeal.defs (F := Ideal)) _ _).mono (fun r h c => by
      refine ⟨(h c).1.trans (Eq.trans ?_ (same m c)), (h c).2⟩
      obtain ⟨e0, e1, e2, e3⟩ := hagree c
      rw [← e0, ← e1, ← e2, ← e3]
      rfl) (Cert.ReferenceIdeal.Value.run m' g')⟩

/-- Every claim of the certificate. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  frame_r,
  preserves,
  algebraic⟩

end Cert.Proof

end
